-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_head [hPre_bounded_head : Cert.Pre_bounded_head.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_head.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_head [hPre_bounded_head : Cert.Pre_bounded_head.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_head.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bounded_head [hKernelIdeal : Cert.KernelIdeal.Facts] [hPre_bounded_head : Cert.Pre_bounded_head.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_head m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bounded_head [hReferenceIdeal : Cert.ReferenceIdeal.Facts] [hPre_bounded_head : Cert.Pre_bounded_head.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_head m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_bounded_head [hKernelIdeal : Cert.KernelIdeal.Facts] [hReferenceIdeal : Cert.ReferenceIdeal.Facts] [hPre_bounded_head : Cert.Pre_bounded_head.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_head m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bounded_head : Cert.Pre_bounded_head.Facts),
    quiescent_Kernel (hKernel := hKernel)
    ∧ quiescent_KernelIdeal (hKernelIdeal := hKernelIdeal)
    ∧ quiescent_KernelIdeal_pre_bounded_head (hKernelIdeal := hKernelIdeal) (hPre_bounded_head := hPre_bounded_head)
    ∧ quiescent_ReferenceIdeal (hReferenceIdeal := hReferenceIdeal)
    ∧ quiescent_ReferenceIdeal_pre_bounded_head (hReferenceIdeal := hReferenceIdeal) (hPre_bounded_head := hPre_bounded_head)
    ∧ preserves_Kernel_KernelIdeal
    ∧ algebraic_KernelIdeal_ReferenceIdeal_pre_bounded_head (hKernelIdeal := hKernelIdeal) (hReferenceIdeal := hReferenceIdeal) (hPre_bounded_head := hPre_bounded_head)
-- ==== Pre_bounded_head.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  shapeCasts_S64x1_S64 : S64x1.ShapeCasts S64
  bcast_S_S64 : S_.BroadcastsInDim S64 (![] : Fin 0 → Fin S64.rank)
  bcast_S_S1 : S_.BroadcastsInDim S1 (![] : Fin 0 → Fin S1.rank)
  bcast_S1_S64_0 : S1.BroadcastsInDim S64 (![0] : Fin 1 → Fin S64.rank)

variable [Facts]

def fn {F : FTy → Type} [FloatOps F] (main_arg0 : FVec F S100000x128 .f32) (main_arg1 : IVec S100000 32) (main_arg2 : FVec F S128x64 .f32) (main_arg3 : FVec F S64 .f32) (main_arg4 : FVec F S64x1 .f32) (main_arg5 : FVec F S1 .f32) : IVec S64 1 :=
  let main_v0 : FVec F S64 .f32 := shapeCast S64 main_arg4 shapeCasts_S64x1_S64
  let main_v1 : FVec F S64 .f32 := Host.absf main_v0
  let main_cst : FVec F S_ .f32 := constant S_ .f32 0x7F800000#32
  let main_v2 : FVec F S64 .f32 := broadcastInDim S64 ![] bcast_S_S64 main_cst
  let main_v3 : IVec S64 1 := cmpf .olt main_v1 main_v2
  let main_cst_0 : FVec F S_ .f32 := constant S_ .f32 0xFF800000#32
  let main_v4 : FVec F S1 .f32 := broadcastInDim S1 ![] bcast_S_S1 main_cst_0
  let main_v5 : IVec S1 1 := cmpf .ogt main_arg5 main_v4
  let main_v6 : IVec S64 1 := broadcastInDim S64 ![0] bcast_S1_S64_0 main_v5
  let main_v7 : IVec S64 1 := andi main_v3 main_v6
  main_v7
-- ==== Kernel.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S25x1x4000 : Shape := ⟨3, ![25, 1, 4000]⟩
abbrev S1x64 : Shape := ⟨2, ![1, 64]⟩
abbrev S_ : Shape := ⟨0, ![]⟩
abbrev S1x1 : Shape := ⟨2, ![1, 1]⟩
abbrev S128x128 : Shape := ⟨2, ![128, 128]⟩
abbrev S4000x128 : Shape := ⟨2, ![4000, 128]⟩
abbrev S1x1x4000 : Shape := ⟨3, ![1, 1, 4000]⟩
abbrev S128x1 : Shape := ⟨2, ![128, 1]⟩
abbrev S1x4000 : Shape := ⟨2, ![1, 4000]⟩
abbrev S4000x64 : Shape := ⟨2, ![4000, 64]⟩
abbrev S4000x1 : Shape := ⟨2, ![4000, 1]⟩
abbrev S128x4000 : Shape := ⟨2, ![128, 4000]⟩

abbrev nBuf : Space → Nat
  | .hbm => 20
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S25x1x4000, .i32⟩
  | .hbm, ⟨7, _⟩ => ⟨S1x64, .f32⟩
  | .hbm, ⟨8, _⟩ => ⟨S64x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S1x1, .f32⟩
  | .hbm, ⟨17, _⟩ => ⟨S128x64, .bf16⟩
  | .hbm, ⟨18, _⟩ => ⟨S64x1, .bf16⟩
  | .hbm, ⟨19, _⟩ => ⟨S128x128, .f32⟩
  | .local _ .vmem, ⟨0, _⟩ => ⟨S4000x128, .f32⟩
  | .local _ .vmem, ⟨1, _⟩ => ⟨S4000x128, .f32⟩
  | .local _ .vmem, ⟨2, _⟩ => ⟨S1x1x4000, .i32⟩
  | .local _ .vmem, ⟨3, _⟩ => ⟨S1x1x4000, .i32⟩
  | .local _ .vmem, ⟨4, _⟩ => ⟨S128x64, .bf16⟩
  | .local _ .vmem, ⟨5, _⟩ => ⟨S1x64, .f32⟩
  | .local _ .vmem, ⟨6, _⟩ => ⟨S64x1, .bf16⟩
  | .local _ .vmem, ⟨7, _⟩ => ⟨S1x1, .f32⟩
  | .local _ .vmem, ⟨8, _⟩ => ⟨S128x128, .f32⟩
  | .local _ .vmem, ⟨9, _⟩ => ⟨S128x1, .f32⟩
  | .local _ .vmem, ⟨10, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x128 : Shape := ⟨2, ![100000, 128]⟩
abbrev S100000 : Shape := ⟨1, ![100000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩
abbrev S128 : Shape := ⟨1, ![128]⟩
abbrev S1x128 : Shape := ⟨2, ![1, 128]⟩
abbrev S_ : Shape := ⟨0, ![]⟩
abbrev S128x128 : Shape := ⟨2, ![128, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S100000x64, .f32⟩
  | .hbm, ⟨11, _⟩ => ⟨S100000x1, .f32⟩
  | .hbm, ⟨12, _⟩ => ⟨S1x1, .f32⟩
  | .hbm, ⟨13, _⟩ => ⟨S100000x1, .f32⟩
  | .hbm, ⟨14, _⟩ => ⟨S100000x1, .f32⟩
  | .hbm, ⟨15, _⟩ => ⟨S100000, .f32⟩
  | .hbm, ⟨16, _⟩ => ⟨S100000x1, .i32⟩
  | .hbm, ⟨17, _⟩ => ⟨S128, .i32⟩
  | .hbm, ⟨18, _⟩ => ⟨S1x128, .i32⟩
  | .hbm, ⟨19, _⟩ => ⟨S100000x128, .i32⟩
  | .hbm, ⟨20, _⟩ => ⟨S100000x128, .i32⟩
  | .hbm, ⟨21, _⟩ => ⟨S100000x128, .i1⟩
  | .hbm, ⟨22, _⟩ => ⟨S100000x1, .f32⟩
  | .hbm, ⟨23, _⟩ => ⟨S_, .f32⟩
  | .hbm, ⟨24, _⟩ => ⟨S_, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .i1⟩
  | .hbm, ⟨34, _⟩ => ⟨S_, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S_, .i32⟩
  | .hbm, ⟨39, _⟩ => ⟨S100000, .i32⟩
  | .hbm, ⟨40, _⟩ => ⟨S100000, .i1⟩
  | .hbm, ⟨41, _⟩ => ⟨S_, .i32⟩
  | .hbm, ⟨42, _⟩ => ⟨S100000, .i32⟩
  | .hbm, ⟨43, _⟩ => ⟨S100000, .i32⟩
  | .hbm, ⟨44, _⟩ => ⟨S100000, .i32⟩
  | .hbm, ⟨45, _⟩ => ⟨S100000x1, .i32⟩
  | .hbm, ⟨46, _⟩ => ⟨S100000, .f32⟩
  | .hbm, ⟨47, _⟩ => ⟨S100000, .f32⟩
  | .hbm, ⟨48, _⟩ => ⟨S100000, .f32⟩
  | .hbm, ⟨49, _⟩ => ⟨S_, .f32⟩
  | .hbm, ⟨50, _⟩ => ⟨S128, .f32⟩
  | .hbm, ⟨51, _⟩ => ⟨S100000x1, .i32⟩
  | .hbm, ⟨52, _⟩ => ⟨S128, .f32⟩
  | .hbm, ⟨53, _⟩ => ⟨S_, .i32⟩
  | .hbm, ⟨54, _⟩ => ⟨S100000, .i32⟩
  | .hbm, ⟨55, _⟩ => ⟨S100000, .i1⟩
  | .hbm, ⟨56, _⟩ => ⟨S_, .i32⟩
  | .hbm, ⟨57, _⟩ => ⟨S100000, .i32⟩
  | .hbm, ⟨58, _⟩ => ⟨S100000, .i32⟩
  | .hbm, ⟨59, _⟩ => ⟨S100000, .i32⟩
  | .hbm, ⟨60, _⟩ => ⟨S100000x1, .i32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S128x128, .f32⟩
  | .hbm, ⟨68, _⟩ => ⟨S100000x1, .i32⟩
  | .hbm, ⟨69, _⟩ => ⟨S128x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v22 : Ref sig .tc := ⟨.hbm, 37, rfl⟩
abbrev main_c : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Proof.Finite.lean ====
/-
  The precondition read out: the second layer's column holds real numbers and its offset is not `⊥`.
-/
module

public import proofs.«01_k».proof.Pre_bounded_head
public import Idealize.ShloMosaic.PureOps.Ideal
public import Idealize.ShloMosaic.Lib.Pointwise

@[expose] public section

noncomputable section

namespace Cert.Pool

open Idealize.ShloMosaic Cert.Pre_bounded_head

/-- The shape relations that the precondition's operations take. -/
theorem headFacts : Cert.Pre_bounded_head.Facts where
  shapeCasts_S64x1_S64 := by decide
  bcast_S_S64 := by decide
  bcast_S_S1 := by decide
  bcast_S1_S64_0 := by decide

/-- A number whose absolute value is below `⊤` is real. -/
theorem real_of_abs_lt (x : EReal) (h : max x (-x) < ⊤) : ∃ r : ℝ, x = r := by
  induction x with
  | bot => simp at h
  | top => simp at h
  | coe r => exact ⟨r, rfl⟩

/-- The pattern of the positive infinity names `⊤`. -/
theorem ofBits_infinity : Ideal.ofBits .f32 0x7F800000#32 = ⊤ := by
  simp [Ideal.ofBits, Ideal.ieee]

/-- The pattern of the negative infinity names `⊥`. -/
theorem ofBits_negInfinity : Ideal.ofBits .f32 0xFF800000#32 = ⊥ := by
  simp [Ideal.ofBits, Ideal.ieee]

attribute [local instance] headFacts in
/-- Where the precondition holds, the second layer's column holds real numbers and its offset is not `⊥`. -/
theorem head_of_pre (X : FVec Ideal S100000x128 .f32) (ids : IVec S100000 32) (W1 : FVec Ideal S128x64 .f32)
    (b1 : FVec Ideal S64 .f32) (W2 : FVec Ideal S64x1 .f32) (b2 : FVec Ideal S1 .f32)
    (h : fn X ids W1 b1 W2 b2 = fun _ => 1#1) :
    (∀ k : Fin 64, ∃ r : ℝ, (W2 (ix2 k 0) : EReal) = r) ∧ (⊥ : EReal) < b2 (ix1 0) := by
  have hk : ∀ k : Fin 64, (max (W2 (ix2 k 0) : EReal) (-(W2 (ix2 k 0))) < ⊤) ∧ (⊥ : EReal) < b2 (ix1 0) := by
    intro k
    have h1 := congrFun h (ix1 k)
    unfold fn at h1
    dsimp only at h1
    simp only [pointwise] at h1
    simp only [ofBits_infinity, ofBits_negInfinity, dite_true, IntOp.andi] at h1
    have h2 : ∀ p q : Bool, BitVec.ofBool p &&& BitVec.ofBool q = 1#1 → p = true ∧ q = true := by decide
    exact ⟨of_decide_eq_true (h2 _ _ h1).1, of_decide_eq_true (h2 _ _ h1).2⟩
  exact ⟨fun k => real_of_abs_lt _ (hk k).1, (hk 0).2⟩

end Cert.Pool

end
-- ==== Proof.Step.lean ====
/-
  What one grid point leaves in the two running sums, as the body's own vector operations of the point's input blocks
  and of what the point before left.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Pool

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

/-- The state one point hands to the next: the output block, the column of weight sums, the block of weighted feature sums. -/
abbrev State (F : FTy → Type) [FloatOps F] : Type := Vec F S128x128 .f32 × Vec F S128x1 .f32 × Vec F S128x128 .f32

/-- The column of weight sums after a point whose sums before it are `d`: the point's one-hot block times its weights, added to `d`. -/
def denStep (c : Dev nD) (t : Fin cfg0.N) (d : Vec F S128x1 .f32) : Vec F S128x1 .f32 :=
  k0_pay1 (k0_pay9 (iblk m c 0 t) (iblk m c 1 t) (iblk m c 2 t) (iblk m c 3 t) (iblk m c 4 t) (iblk m c 5 t) d)

/-- The block of weighted feature sums after a point whose sums before it are `a`. -/
def accStep (c : Dev nD) (t : Fin cfg0.N) (a : Vec F S128x128 .f32) : Vec F S128x128 .f32 :=
  k0_pay2 (k0_pay6 (iblk m c 0 t)) (k0_pay7 (iblk m c 0 t) (iblk m c 2 t) (iblk m c 3 t) (iblk m c 4 t) (iblk m c 5 t)) (k0_pay8 (iblk m c 1 t)) a

/-- At the first point the column of weight sums takes one step from zero. -/
theorem den_first (c : Dev nD) (t : Fin cfg0.N) (s : State F) (h0 : t.val % 25 = 0) (h1 : ¬t.val % 25 = 24) :
    (stAt0 m c t.val t.isLt s).2.1 = denStep m c t k0_pay4 := by
  rw [stAt0_A m c t s h0 h1]
  dsimp only
  frame_out
  rfl

/-- At the first point the block of weighted feature sums takes one step from zero. -/
theorem acc_first (c : Dev nD) (t : Fin cfg0.N) (s : State F) (h0 : t.val % 25 = 0) (h1 : ¬t.val % 25 = 24) :
    (stAt0 m c t.val t.isLt s).2.2 = accStep m c t k0_pay5 := by
  rw [stAt0_A m c t s h0 h1]
  dsimp only
  frame_out
  rfl

/-- At a point that is neither the first nor the last the column of weight sums takes one step. -/
theorem den_middle (c : Dev nD) (t : Fin cfg0.N) (s : State F) (h0 : ¬t.val % 25 = 0) (h1 : ¬t.val % 25 = 24) :
    (stAt0 m c t.val t.isLt s).2.1 = denStep m c t s.2.1 := by
  rw [stAt0_B m c t s h0 h1]
  dsimp only
  frame_out
  simp only [read_unread_whole]
  rfl

/-- At a point that is neither the first nor the last the block of weighted feature sums takes one step. -/
theorem acc_middle (c : Dev nD) (t : Fin cfg0.N) (s : State F) (h0 : ¬t.val % 25 = 0) (h1 : ¬t.val % 25 = 24) :
    (stAt0 m c t.val t.isLt s).2.2 = accStep m c t s.2.2 := by
  rw [stAt0_B m c t s h0 h1]
  dsimp only
  frame_out
  simp only [read_unread_whole]
  rfl

/-- At the last point the output block is the quotient of the two sums, each after its last step. -/
theorem out_last (c : Dev nD) (t : Fin cfg0.N) (s : State F) (h0 : ¬t.val % 25 = 0) (h1 : t.val % 25 = 24) :
    (stAt0 m c t.val t.isLt s).1 = k0_pay3 (denStep m c t s.2.1) (accStep m c t s.2.2) := by
  rw [stAt0_C m c t s h0 h1]
  dsimp only
  frame_out
  simp only [read_unread_whole]
  rfl

end Cert.Pool

end
-- ==== Proof.Payload.lean ====
/-
  The body's vector operations read at an index, over the extended reals.
-/
module

public import proofs.«01_k».proof.Proof.Step
public import Idealize.ShloMosaic.Lib.Pointwise

@[expose] public section

set_option maxRecDepth 16384

noncomputable section

namespace Cert.Pool

open Cert.KernelIdeal Cert.KernelIdeal.Gen Cert.KernelIdeal.Value Idealize.ShloMosaic Idealize.SL.Sem

/-- A row's weight in the kernel. -/
theorem weight_apply (x : Vec Ideal S4000x128 .f32) (W1 : Vec Ideal S128x64 .bf16) (b1 : Vec Ideal S1x64 .f32)
    (W2 : Vec Ideal S64x1 .bf16) (b : Vec Ideal S1x1 .f32) (r : Fin 4000) :
    k0_pay7 (F := Ideal) x W1 b1 W2 b (ix2 r 0)
      = Ideal.exp ((∑ k : Fin 64, Ideal.tanh ((∑ c : Fin 128, x (ix2 r c) * W1 (ix2 c k)) + b1 (ix2 0 k)) * W2 (ix2 k 0)) + b (ix2 0 0)) := by
  unfold k0_pay7 k0_pay6
  pointwise

/-- A comparison of two words for equality, as the bit it gives. -/
theorem cmpi_eq_word (a b : BitVec 32) : IntOp.cmpi .eq a b = if a = b then 1#1 else 0#1 := by
  unfold IntOp.cmpi
  by_cases h : a = b
  · subst h
    simp
  · show BitVec.ofBool (a == b) = _
    rw [if_neg h, beq_eq_false_iff_ne.2 h]
    rfl

/-- A 32-bit word is a small number's word just when it reads, signed, as that number. -/
theorem word_eq_iff (a : BitVec 32) {n : Nat} (hn : n < 128) : a = BitVec.ofNat 32 n ↔ a.toInt = (n : Int) := by
  rw [← BitVec.toInt_inj]
  have : (BitVec.ofNat 32 n).toInt = (n : Int) := by
    rw [BitVec.toInt_eq_toNat_of_lt] <;> rw [BitVec.toNat_ofNat] <;> omega
  rw [this]

/-- Whether row `r` of the block is in graph `g`, as one or zero. -/
theorem onehot_apply (ids : Vec Ideal S1x1x4000 .i32) (g : Fin 128) (r : Fin 4000) :
    k0_pay8 (F := Ideal) ids (ix2 g r) = if (ids (ix3 0 0 r) : BitVec 32).toInt = (g.val : Int) then (1 : EReal) else 0 := by
  unfold k0_pay8
  pointwise
  have hg := g.isLt
  have e : (IntOp.cmpi CmpIPredicate.eq (ids (ix3 0 0 r)) (BitVec.ofNat 32 g.val) : BitVec 1)
      = if (ids (ix3 0 0 r) : BitVec 32).toInt = (g.val : Int) then 1#1 else 0#1 := by
    rw [cmpi_eq_word]
    exact if_congr (word_eq_iff _ hg) rfl rfl
  rw [e]
  split <;> rfl

/-- A point's new sum of weights of graph `g`: the old one plus the row's one-hot entry times its weight, over the rows. -/
theorem den_apply (x : Vec Ideal S4000x128 .f32) (ids : Vec Ideal S1x1x4000 .i32) (W1 : Vec Ideal S128x64 .bf16) (b1 : Vec Ideal S1x64 .f32)
    (W2 : Vec Ideal S64x1 .bf16) (b : Vec Ideal S1x1 .f32) (d : Vec Ideal S128x1 .f32) (g : Fin 128) :
    k0_pay1 (F := Ideal) (k0_pay9 x ids W1 b1 W2 b d) (ix2 g 0)
      = (d (ix2 g 0) : EReal) + ∑ r : Fin 4000, k0_pay8 (F := Ideal) ids (ix2 g r) * k0_pay7 (F := Ideal) x W1 b1 W2 b (ix2 r 0) := by
  unfold k0_pay1 k0_pay9
  generalize k0_pay8 (F := Ideal) ids = o
  generalize k0_pay7 (F := Ideal) x W1 b1 W2 b = e
  pointwise

/-- A point's new sum of weighted features: the old one plus one-hot entry times feature times weight, over the rows. -/
theorem acc_apply (x : FVec Ideal S4000x128 .bf16) (e : FVec Ideal S4000x1 .bf16) (o : FVec Ideal S128x4000 .bf16) (a : Vec Ideal S128x128 .f32)
    (g : Fin 128) (l : Fin 128) :
    k0_pay2 (F := Ideal) x e o a (ix2 g l) = (a (ix2 g l) : EReal) + ∑ r : Fin 4000, o (ix2 g r) * (x (ix2 r l) * e (ix2 r 0)) := by
  unfold k0_pay2
  pointwise

/-- The last step divides the sum of weighted features by the sum of weights, and gives zero where that sum is zero. -/
theorem last_apply (d : Vec Ideal S128x1 .f32) (a : Vec Ideal S128x128 .f32) (g : Fin 128) (l : Fin 128) :
    k0_pay3 (F := Ideal) d a (ix2 g l) = if (d (ix2 g 0) : EReal) = 0 then (0 : EReal) else Ideal.div (a (ix2 g l)) (d (ix2 g 0)) := by
  unfold k0_pay3
  pointwise

/-- The column of weight sums starts from zero. -/
theorem zero_den_apply (g : Fin 128) : k0_pay4 (F := Ideal) (ix2 g 0) = (0 : EReal) := by
  unfold k0_pay4
  pointwise

/-- The block of weighted feature sums starts from zero. -/
theorem zero_acc_apply (g : Fin 128) (l : Fin 128) : k0_pay5 (F := Ideal) (ix2 g l) = (0 : EReal) := by
  unfold k0_pay5
  pointwise

end Cert.Pool

end
-- ==== Proof.Blocks.lean ====
/-
  The blocks one grid point reads, as the elements of the program's arguments that they are.
-/
module

public import proofs.«01_k».proof.Proof.Payload
public import Idealize.ShloMosaic.Lib.StableHlo.ReadAt

@[expose] public section

set_option maxRecDepth 16384

noncomputable section

namespace Cert.Pool

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The features, one row per node. -/
abbrev argX (c : Dev nD) : S100000x128.Idx → EReal := m ((c.tc : Thread nD τ).loc main_arg0)
/-- The graph numbers of the nodes. -/
abbrev argIds (c : Dev nD) : S100000.Idx → BitVec 32 := m ((c.tc : Thread nD τ).loc main_arg1)
/-- The first layer's matrix. -/
abbrev argW1 (c : Dev nD) : S128x64.Idx → EReal := m ((c.tc : Thread nD τ).loc main_arg2)
/-- The first layer's offsets. -/
abbrev argB1 (c : Dev nD) : S64.Idx → EReal := m ((c.tc : Thread nD τ).loc main_arg3)
/-- The second layer's column. -/
abbrev argW2 (c : Dev nD) : S64x1.Idx → EReal := m ((c.tc : Thread nD τ).loc main_arg4)
/-- The second layer's offset. -/
abbrev argB2 (c : Dev nD) : S1.Idx → EReal := m ((c.tc : Thread nD τ).loc main_arg5)

/-- Row `r` of the block at point `t`, as a row of the whole. -/
abbrev rowAt (t : Fin cfg0.N) (r : Fin 4000) : Fin 100000 :=
  ⟨t.val * 4000 + r.val, by have := lt_of_lt_of_eq t.isLt (show cfg0.N = 25 from N_0); omega⟩

/-- Where the first two windows' blocks lie: point `t`'s are block `t`. -/
theorem places : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Where window 0's block at point `t` lies in its array. -/
theorem place0 (t : Fin cfg0.N) (r : Fin 4000) (l : Fin 128) : ((cfg0.win 0).blk t).view.emb (ix2 r l) = (ix2 (rowAt t r) l : S100000x128.Idx) := by
  funext a
  match a with
  | ⟨0, _⟩ =>
    apply Fin.ext
    blk_simp [(places t).1]
  | ⟨1, _⟩ =>
    apply Fin.ext
    blk_simp [(places t).2.1]

/-- Where window 1's block at point `t` lies in its array. -/
theorem place1 (t : Fin cfg0.N) (r : Fin 4000) : ((cfg0.win 1).blk t).view.emb (ix3 0 0 r) = (ix3 ⟨t.val, lt_of_lt_of_eq t.isLt (show cfg0.N = 25 from N_0)⟩ 0 r : S25x1x4000.Idx) := by
  funext a
  match a with
  | ⟨0, _⟩ =>
    apply Fin.ext
    blk_simp [(places t).2.2.1]
    exact Nat.add_zero _
  | ⟨1, _⟩ =>
    apply Fin.ext
    blk_simp [(places t).2.2.2.1]
  | ⟨2, _⟩ =>
    apply Fin.ext
    blk_simp [(places t).2.2.2.2.1]

/-- Where window 2's block at point `t` lies in its array. -/
theorem place2 (t : Fin cfg0.N) (a : Fin 128) (k : Fin 64) : ((cfg0.win 2).blk t).view.emb (ix2 a k) = (ix2 a k : S128x64.Idx) := by
  funext a
  match a with
  | ⟨0, _⟩ =>
    apply Fin.ext
    blk_simp [(places t).2.2.2.2.2.1]
  | ⟨1, _⟩ =>
    apply Fin.ext
    blk_simp [(places t).2.2.2.2.2.2.1]

/-- Where window 3's block at point `t` lies in its array. -/
theorem place3 (t : Fin cfg0.N) (k : Fin 64) : ((cfg0.win 3).blk t).view.emb (ix2 0 k) = (ix2 0 k : S1x64.Idx) := by
  funext a
  match a with
  | ⟨0, _⟩ =>
    apply Fin.ext
    blk_simp [(places t).2.2.2.2.2.2.2.1]
  | ⟨1, _⟩ =>
    apply Fin.ext
    blk_simp [(places t).2.2.2.2.2.2.2.2.1]

/-- Where window 4's block at point `t` lies in its array. -/
theorem place4 (t : Fin cfg0.N) (k : Fin 64) : ((cfg0.win 4).blk t).view.emb (ix2 k 0) = (ix2 k 0 : S64x1.Idx) := by
  funext a
  match a with
  | ⟨0, _⟩ =>
    apply Fin.ext
    blk_simp [(places t).2.2.2.2.2.2.2.2.2.1]
  | ⟨1, _⟩ =>
    apply Fin.ext
    blk_simp [(places t).2.2.2.2.2.2.2.2.2.2.1]

/-- Where window 5's block at point `t` lies in its array. -/
theorem place5 (t : Fin cfg0.N)  : ((cfg0.win 5).blk t).view.emb (ix2 0 0) = (ix2 0 0 : S1x1.Idx) := by
  funext a
  match a with
  | ⟨0, _⟩ =>
    apply Fin.ext
    blk_simp [(places t).2.2.2.2.2.2.2.2.2.2.2.1]
  | ⟨1, _⟩ =>
    apply Fin.ext
    blk_simp [(places t).2.2.2.2.2.2.2.2.2.2.2.2]

/-- A feature of the block. -/
theorem block_x (c : Dev nD) (t : Fin cfg0.N) (r : Fin 4000) (l : Fin 128) :
    (iblk m c 0 t (ix2 r l) : EReal) = argX m c (ix2 (rowAt t r) l) := by
  show V m c main_arg0 (((cfg0.win 0).blk t).view.emb (ix2 r l)) = _
  rw [place0]
  unfold V
  after_reads_at

/-- A graph number of the block. -/
theorem block_ids (c : Dev nD) (t : Fin cfg0.N) (r : Fin 4000) :
    (iblk m c 1 t (ix3 0 0 r) : BitVec 32) = argIds m c (ix1 (rowAt t r)) := by
  show V m c main_v0 (((cfg0.win 1).blk t).view.emb (ix3 0 0 r)) = _
  rw [place1]
  unfold V
  after_reads_at

/-- The first matrix: every point reads the whole of it, unrounded. -/
theorem block_W1 (c : Dev nD) (t : Fin cfg0.N) (a : Fin 128) (k : Fin 64) :
    (iblk m c 2 t (ix2 a k) : EReal) = argW1 m c (ix2 a k) := by
  show V m c main_v10 (((cfg0.win 2).blk t).view.emb (ix2 a k)) = _
  rw [place2]
  unfold V
  after_reads_at

/-- The first offsets. -/
theorem block_b1 (c : Dev nD) (t : Fin cfg0.N) (k : Fin 64) :
    (iblk m c 3 t (ix2 0 k) : EReal) = argB1 m c (ix1 k) := by
  show V m c main_v1 (((cfg0.win 3).blk t).view.emb (ix2 0 k)) = _
  rw [place3]
  unfold V
  after_reads_at

/-- The second column. -/
theorem block_W2 (c : Dev nD) (t : Fin cfg0.N) (k : Fin 64) :
    (iblk m c 4 t (ix2 k 0) : EReal) = argW2 m c (ix2 k 0) := by
  show V m c main_v11 (((cfg0.win 4).blk t).view.emb (ix2 k 0)) = _
  rw [place4]
  unfold V
  after_reads_at

/-- The second offset, less the bound: the sum of the absolute values of the second column and of the offset. -/
theorem block_b2 (c : Dev nD) (t : Fin cfg0.N) :
    (iblk m c 5 t (ix2 0 0) : EReal) = argB2 m c (ix1 0)
      - ((∑ k : Fin 64, max (argW2 m c (ix2 k 0)) (-(argW2 m c (ix2 k 0)))) + max (argB2 m c (ix1 0)) (-(argB2 m c (ix1 0)))) := by
  show V m c main_v9 (((cfg0.win 5).blk t).view.emb (ix2 0 0)) = _
  rw [place5]
  unfold V
  after_reads_at
  simp only [Fin.sum_univ_one]
  rfl

end Cert.Pool

end
-- ==== Proof.Fold.lean ====
/-
  The kernel's result as a whole: over all 25 grid points the two running sums are sums over all 100000 nodes, and the
  result divides the one by the other.
-/
module

public import proofs.«01_k».proof.Proof.Blocks

@[expose] public section

set_option maxRecDepth 16384

noncomputable section

namespace Cert.Pool

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The linear part of a node's score: the hidden layer, each unit the hyperbolic tangent of the node's features through
    the first layer, through the second layer's column. -/
def linOf (X : S100000x128.Idx → EReal) (W1 : S128x64.Idx → EReal) (b1 : S64.Idx → EReal) (W2 : S64x1.Idx → EReal)
    (i : Fin 100000) : EReal :=
  ∑ k : Fin 64, Ideal.tanh ((∑ l : Fin 128, X (ix2 i l) * W1 (ix2 l k)) + b1 (ix1 k)) * W2 (ix2 k 0)

/-- The number that the kernel adds to the linear part in place of the second layer's offset: that offset less a bound. -/
def shiftOf (W2 : S64x1.Idx → EReal) (b2 : S1.Idx → EReal) : EReal :=
  b2 (ix1 0) - ((∑ k : Fin 64, max (W2 (ix2 k 0)) (-(W2 (ix2 k 0)))) + max (b2 (ix1 0)) (-(b2 (ix1 0))))

/-- A node's weight in the kernel. -/
def weightOf (c : Dev nD) (i : Fin 100000) : EReal :=
  Ideal.exp (linOf (argX m c) (argW1 m c) (argB1 m c) (argW2 m c) i + shiftOf (argW2 m c) (argB2 m c))

/-- Node `i` is in graph `g`: its number, read signed, is `g`. -/
abbrev inGraph (ids : S100000.Idx → BitVec 32) (g : Fin 128) (i : Fin 100000) : Prop := (ids (ix1 i)).toInt = (g.val : Int)

/-- The weight of row `r` of the block at point `t`. -/
theorem weight_block (c : Dev nD) (t : Fin cfg0.N) (r : Fin 4000) :
    k0_pay7 (F := Ideal) (iblk m c 0 t) (iblk m c 2 t) (iblk m c 3 t) (iblk m c 4 t) (iblk m c 5 t) (ix2 r 0) = weightOf m c (rowAt t r) := by
  rw [weight_apply]
  unfold weightOf linOf shiftOf
  simp only [block_x, block_W1, block_b1, block_W2, block_b2]

/-- The one-hot block at point `t`. -/
theorem onehot_block (c : Dev nD) (t : Fin cfg0.N) (g : Fin 128) (r : Fin 4000) :
    k0_pay8 (F := Ideal) (iblk m c 1 t) (ix2 g r) = if inGraph (argIds m c) g (rowAt t r) then (1 : EReal) else 0 := by
  rw [onehot_apply, block_ids]

/-- One point adds to the sums of weights the weights of its rows, each to its graph's. -/
theorem denStep_apply (c : Dev nD) (t : Fin cfg0.N) (d : Vec Ideal S128x1 .f32) (g : Fin 128) :
    denStep m c t d (ix2 g 0)
      = (d (ix2 g 0) : EReal) + ∑ r : Fin 4000, if inGraph (argIds m c) g (rowAt t r) then weightOf m c (rowAt t r) else 0 := by
  unfold denStep
  rw [den_apply]
  congr 1
  refine Finset.sum_congr rfl fun r _ => ?_
  rw [onehot_block, weight_block]
  split
  · rw [one_mul]
  · rw [zero_mul]

/-- One point adds to the sums of weighted features those of its rows, each to its graph's. -/
theorem accStep_apply (c : Dev nD) (t : Fin cfg0.N) (a : Vec Ideal S128x128 .f32) (g l : Fin 128) :
    accStep m c t a (ix2 g l)
      = (a (ix2 g l) : EReal) + ∑ r : Fin 4000, if inGraph (argIds m c) g (rowAt t r)
          then argX m c (ix2 (rowAt t r) l) * weightOf m c (rowAt t r) else 0 := by
  unfold accStep
  rw [acc_apply]
  congr 1
  refine Finset.sum_congr rfl fun r _ => ?_
  rw [onehot_block, weight_block]
  have hx : k0_pay6 (F := Ideal) (iblk m c 0 t) (ix2 r l) = argX m c (ix2 (rowAt t r) l) := block_x m c t r l
  rw [hx]
  split
  · rw [one_mul]
  · rw [zero_mul]

/-- A sum over the rows of point `n`'s block; zero past the grid. -/
def pointSum (f : Fin 100000 → EReal) (n : ℕ) : EReal :=
  if h : n < cfg0.N then ∑ r : Fin 4000, f (rowAt ⟨n, h⟩ r) else 0

/-- The rows of all the points are all the nodes. -/
theorem sum_pointSum (f : Fin 100000 → EReal) : ∑ n ∈ Finset.range 25, pointSum f n = ∑ i, f i := by
  rw [Fin.sum_univ_tiles 25 4000 rfl f, Finset.sum_range]
  refine Finset.sum_congr rfl fun n _ => ?_
  unfold pointSum
  rw [dif_pos (lt_of_lt_of_eq n.isLt (show 25 = cfg0.N from N_0.symm))]

/-- The state after point `n`. -/
def stateAt (c : Dev nD) (n : ℕ) (h : 0 + n < cfg0.N) : State Ideal :=
  Pipeline.accAt (fun n h => stAt0 m c n h junk0) (stAt0 m c) 0 n h

/-- The first point starts from nothing. -/
theorem stateAt_zero (c : Dev nD) (h : 0 + 0 < cfg0.N) (hp : 0 < cfg0.N) : stateAt m c 0 h = stAt0 m c 0 hp junk0 := rfl

/-- A later point starts from the state that the point before it left. -/
theorem stateAt_succ (c : Dev nD) (n : ℕ) (h : 0 + (n + 1) < cfg0.N) (hp : n + 1 < cfg0.N) (h' : 0 + n < cfg0.N) :
    stateAt m c (n + 1) h = stAt0 m c (n + 1) hp (stateAt m c n h') := by
  unfold stateAt
  rw [Pipeline.accAt_succ]
  have e : 0 + (n + 1) = n + 1 := Nat.zero_add _
  generalize Pipeline.accAt _ _ _ _ _ = a
  revert h
  rw [e]
  exact fun _ => rfl

/-- Before the last point both running sums are the sums over the points so far. -/
theorem sums (c : Dev nD) (g l : Fin 128) : ∀ (n : ℕ) (h : 0 + n < cfg0.N), n < 24 →
    ((stateAt m c n h).2.1 (ix2 g 0) : EReal)
        = ∑ s ∈ Finset.range (n + 1), pointSum (fun i => if inGraph (argIds m c) g i then weightOf m c i else 0) s
    ∧ ((stateAt m c n h).2.2 (ix2 g l) : EReal)
        = ∑ s ∈ Finset.range (n + 1), pointSum (fun i => if inGraph (argIds m c) g i then argX m c (ix2 i l) * weightOf m c i else 0) s
  | 0, h, _ => by
    have hp : 0 < cfg0.N := h
    have h0 : (⟨0, hp⟩ : Fin cfg0.N).val % 25 = 0 := Nat.zero_mod _
    have h1 : ¬ (⟨0, hp⟩ : Fin cfg0.N).val % 25 = 24 := by rw [h0]; decide
    have e0 := den_first m c ⟨0, hp⟩ junk0 h0 h1
    have e1 := acc_first m c ⟨0, hp⟩ junk0 h0 h1
    rw [stateAt_zero m c h hp]
    dsimp only at e0 e1
    rw [e0, e1, denStep_apply, accStep_apply, zero_den_apply, zero_acc_apply, Finset.sum_range_one, Finset.sum_range_one]
    unfold pointSum
    rw [dif_pos hp, dif_pos hp]
    exact ⟨zero_add _, zero_add _⟩
  | n + 1, h, hn => by
    obtain ⟨i0, i1⟩ := sums c g l n (Nat.lt_of_succ_lt h) (by omega)
    have hp : n + 1 < cfg0.N := by omega
    have h0 : ¬ (n + 1) % 25 = 0 := by omega
    have h1 : ¬ (n + 1) % 25 = 24 := by omega
    have e0 := den_middle m c ⟨n + 1, hp⟩ (stateAt m c n (Nat.lt_of_succ_lt h)) h0 h1
    have e1 := acc_middle m c ⟨n + 1, hp⟩ (stateAt m c n (Nat.lt_of_succ_lt h)) h0 h1
    dsimp only at e0 e1
    rw [stateAt_succ m c n h hp (Nat.lt_of_succ_lt h), e0, e1, denStep_apply, accStep_apply, i0, i1,
      Finset.sum_range_succ _ (n + 1), Finset.sum_range_succ _ (n + 1)]
    have hs : ∀ f, pointSum f (n + 1) = ∑ r : Fin 4000, f (rowAt ⟨n + 1, hp⟩ r) := fun f => dif_pos hp
    rw [hs, hs]
    exact ⟨rfl, rfl⟩

/-- The kernel's result at graph `g` and feature `l`: the sum of the weighted features of the graph's nodes over the sum
    of their weights, zero where that sum is zero. -/
theorem result_apply (c : Dev nD) (g l : Fin 128) :
    (G6 m c (ix2 g l) : EReal)
      = if (∑ i, if inGraph (argIds m c) g i then weightOf m c i else 0) = 0 then (0 : EReal)
        else Ideal.div (∑ i, if inGraph (argIds m c) g i then argX m c (ix2 i l) * weightOf m c i else 0)
          (∑ i, if inGraph (argIds m c) g i then weightOf m c i else 0) := by
  have hp : 24 < cfg0.N := lt_of_lt_of_eq (by decide) N_0.symm
  have hq : 0 + 23 < cfg0.N := lt_of_lt_of_eq (by decide) N_0.symm
  obtain ⟨i0, i1⟩ := sums m c g l 23 hq (by decide)
  have hr : 0 + 24 < cfg0.N := lt_of_lt_of_eq (by decide) N_0.symm
  have es := out_last m c ⟨24, hp⟩ (stateAt m c 23 hq) (by dsimp only; omega) (by dsimp only)
  dsimp only at es
  rw [← stateAt_succ m c 23 hr hp hq] at es
  have hs : ∀ f : Fin 100000 → EReal, (∑ s ∈ Finset.range (23 + 1), pointSum f s) + ∑ r : Fin 4000, f (rowAt ⟨24, hp⟩ r) = ∑ i, f i := by
    intro f
    rw [← sum_pointSum, Finset.sum_range_succ _ 24]
    congr 1
  rw [show G6 m c = (stateAt m c 24 hr).1 from G6_last m c, es, last_apply, denStep_apply, accStep_apply, i0, i1, hs, hs]

end Cert.Pool

end
-- ==== Proof.Pool.lean ====
/-
  The arithmetic of pooling one graph, over the extended reals: dividing the weighted sum by the sum of the weights, as
  the kernel does at its end, gives the same number as weighting each row by its share of the sum of the weights, as
  the reference does, although the two sets of weights differ by a positive factor.
-/
module

public import Idealize.ShloMosaic.PureOps.Ideal

@[expose] public section

noncomputable section

namespace Cert.Pool

open Idealize.ShloMosaic

/-- A sum of reals is the same real, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Multiplying by a nonnegative real goes through a sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert i s hi ih =>
    rw [Finset.sum_insert hi, Finset.sum_insert hi,
      EReal.right_distrib_of_nonneg_of_ne_top (EReal.coe_nonneg.2 hr) (EReal.coe_ne_top r), ih]

/-- A quotient of two reals, the lower one not zero, is their real quotient. -/
theorem div_coe_coe (x : ℝ) {y : ℝ} (h : y ≠ 0) : Ideal.div (x : EReal) (y : EReal) = ((x / y : ℝ) : EReal) := by
  rw [Ideal.div_coe h, ← EReal.coe_mul, mul_one_div]

/-- One graph: its rows are the `i` with `sel i`, `x i` is row `i`'s feature, `a i` its weight in the kernel and `c * a i`
    its weight in the reference. The weighted sum over the sum of the weights (zero when that sum is zero) is the sum of
    the features, each times its weight's share. -/
theorem pool_eq {ι : Type} [Fintype ι] (sel : ι → Prop) [DecidablePred sel] (x : ι → EReal) (a : ι → ℝ) (c : ℝ)
    (ha : ∀ i, 0 < a i) (hc : 0 < c) :
    (if (∑ i, if sel i then (a i : EReal) else 0) = 0 then (0 : EReal)
      else Ideal.div (∑ i, if sel i then x i * (a i : EReal) else 0) (∑ i, if sel i then (a i : EReal) else 0))
    = ∑ i, if sel i then x i * Ideal.div ((c * a i : ℝ) : EReal) (∑ k, if sel k then ((c * a k : ℝ) : EReal) else 0) else 0 := by
  have hsum : ∀ f : ι → ℝ, (∑ i, if sel i then (f i : EReal) else 0) = ((∑ i, if sel i then f i else 0 : ℝ) : EReal) := by
    intro f
    rw [coe_sum]
    refine Finset.sum_congr rfl fun i _ => ?_
    split <;> simp
  rw [hsum a, hsum fun k => c * a k]
  have hcD : (∑ k, if sel k then c * a k else 0) = c * ∑ k, if sel k then a k else 0 := by
    rw [Finset.mul_sum]
    refine Finset.sum_congr rfl fun i _ => ?_
    split <;> simp
  rw [hcD]
  by_cases hne : ∃ i, sel i
  · obtain ⟨i₀, hi₀⟩ := hne
    have hD : 0 < ∑ k, if sel k then a k else 0 := by
      refine Finset.sum_pos' (fun i _ => ?_) ⟨i₀, Finset.mem_univ _, by rw [if_pos hi₀]; exact ha i₀⟩
      split
      · exact (ha i).le
      · exact le_refl _
    generalize (∑ k, if sel k then a k else 0) = D at hD
    rw [if_neg (by rw [← EReal.coe_zero]; exact fun h => hD.ne' (EReal.coe_injective h)), Ideal.div_coe hD.ne',
      sum_mul_coe _ _ (by positivity)]
    refine Finset.sum_congr rfl fun i _ => ?_
    by_cases hi : sel i
    · rw [if_pos hi, if_pos hi, div_coe_coe _ (by positivity), mul_assoc, ← EReal.coe_mul]
      congr 2
      field_simp
    · rw [if_neg hi, if_neg hi, zero_mul]
  · have hn : ∀ i, ¬ sel i := fun i hi => hne ⟨i, hi⟩
    simp [hn]

end Cert.Pool

end
-- ==== Proof.RefTerm.lean ====
/-
  The reference's result, cut into named steps: the scores, the number taken off the scores of each graph, the
  exponentials, their sums by graph, and the pooled features.
-/
module

public import proofs.«01_k».proof.Proof.Gen.ReferenceIdeal.Run
public import Idealize.ShloMosaic.PureOps.Ideal
public import Idealize.ShloMosaic.Lib.Pointwise

@[expose] public section

set_option maxRecDepth 16384

noncomputable section

namespace Cert.PoolRef

open Cert.ReferenceIdeal Cert.ReferenceIdeal.Gen Cert.ReferenceIdeal.Value Idealize.ShloMosaic Idealize.ShloMosaic.TcCoe Idealize.SL.Sem
  Idealize.ShloMosaic.StableHlo

/-- Every node's score, as a column: two layers, the first through the hyperbolic tangent. -/
def scoreCol (X : FVec Ideal S100000x128 .f32) (W1 : FVec Ideal S128x64 .f32) (b1 : FVec Ideal S64 .f32)
    (W2 : FVec Ideal S64x1 .f32) (b2 : FVec Ideal S1 .f32) : FVec Ideal S100000x1 .f32 :=
  addf
    (Host.dotGeneral dot_S100000x64_S64x1_S100000x1_1_0_0_1_n_n none
      (Host.tanh (addf (Host.dotGeneral dot_S100000x128_S128x64_S100000x64_1_0_0_1_n_n none X W1)
        (broadcastInDim S100000x64 ![0, 1] bcast_S1x64_S100000x64_0_1 (broadcastInDim S1x64 ![1] bcast_S64_S1x64_1 b1)))) W2)
    (broadcastInDim S100000x1 ![0, 1] bcast_S1x1_S100000x1_0_1 (broadcastInDim S1x1 ![1] bcast_S1_S1x1_1 b2))

/-- The scores as a vector. -/
def score (X : FVec Ideal S100000x128 .f32) (W1 : FVec Ideal S128x64 .f32) (b1 : FVec Ideal S64 .f32)
    (W2 : FVec Ideal S64x1 .f32) (b2 : FVec Ideal S1 .f32) : FVec Ideal S100000 .f32 :=
  shapeCast S100000 (scoreCol X W1 b1 W2 b2) shapeCasts_S100000x1_S100000

/-- The nodes' graph numbers, as a column. -/
def idCol (ids : IVec S100000 32) : IVec S100000x1 32 := broadcastInDim S100000x1 ![0] bcast_S100000_S100000x1_0 ids

/-- The largest score of each graph. -/
def top (ids : IVec S100000 32) (s : FVec Ideal S100000 .f32) : FVec Ideal S128 .f32 :=
  Host.reduce FloatOps.maximumf
    (select
      (cmpi .eq (broadcastInDim S100000x128 ![0, 1] bcast_S100000x1_S100000x128_0_1 (idCol ids))
        (broadcastInDim S100000x128 ![0, 1] bcast_S1x128_S100000x128_0_1
          (broadcastInDim S1x128 ![1] bcast_S128_S1x128_1 (iotaInDim S128 32 0))))
      (broadcastInDim S100000x128 ![0, 1] bcast_S100000x1_S100000x128_0_1
        (broadcastInDim S100000x1 ![0] bcast_S100000_S100000x1_0 s))
      (broadcastInDim S100000x128 ![] bcast_S_S100000x128 (id (constant S_ .f32 0xFF800000#32))))
    (constant S_ .f32 0xFF800000#32) reducesTo_S100000x128_S128_d0 h_S_

/-- A vector over the graphs with each infinite entry put to zero. -/
def tame (v : FVec Ideal S128 .f32) : FVec Ideal S128 .f32 :=
  select (cmpf .olt (Host.absf v) (broadcastInDim S128 ![] bcast_S_S128 (constant S_ .f32 0x7F800000#32))) v
    (broadcastInDim S128 ![] bcast_S_S128 (id (constant S_ .f32 0x00000000#32)))

/-- The nodes' graph numbers with 128 added to each negative one. -/
def wrap (ids : IVec S100000 32) : IVec S100000 32 :=
  select (cmpi .slt ids (broadcastInDim S100000 ![] bcast_S_S100000 (constantI S_ 32 0#32)))
    (addi ids (broadcastInDim S100000 ![] bcast_S_S100000 (constantI S_ 32 128#32))) ids

/-- Each node's entry of a vector over the graphs. -/
def pick (ids : IVec S100000 32) (v : FVec Ideal S128 .f32) : FVec Ideal S100000 .f32 :=
  Host.gather gather_S128_S100000x1_S100000_n_0_n_n_0_1_1 v (idCol (wrap ids))

/-- Every node's exponential, its score less its graph's entry of `v`. -/
def expo (ids : IVec S100000 32) (s : FVec Ideal S100000 .f32) (v : FVec Ideal S128 .f32) : FVec Ideal S100000 .f32 :=
  Host.exp (subf s (pick ids v))

/-- The sum by graph of a vector over the nodes. -/
def total (ids : IVec S100000 32) (e : FVec Ideal S100000 .f32) : FVec Ideal S128 .f32 :=
  Host.scatterAdd scatter_S128_S100000x1_S100000_n_0_0_1
    (broadcastInDim S128 ![] bcast_S_S128 (constant S_ .f32 0x00000000#32)) (idCol ids) e

/-- Every node's features times its share of its graph's sum. -/
def shared (X : FVec Ideal S100000x128 .f32) (ids : IVec S100000 32) (e : FVec Ideal S100000 .f32) : FVec Ideal S100000x128 .f32 :=
  mulf X (broadcastInDim S100000x128 ![0, 1] bcast_S100000x1_S100000x128_0_1
    (broadcastInDim S100000x1 ![0] bcast_S100000_S100000x1_0 (Host.divf e (pick ids (total ids e)))))

/-- The pooled features, from the features and the exponentials. -/
def pooled (X : FVec Ideal S100000x128 .f32) (ids : IVec S100000 32) (e : FVec Ideal S100000 .f32) : FVec Ideal S128x128 .f32 :=
  Host.scatterAdd scatter_S128x128_S100000x1_S100000x128_1_0_0_1
    (broadcastInDim S128x128 ![] bcast_S_S128x128 (constant S_ .f32 0x00000000#32)) (idCol ids) (shared X ids e)

/-- The exponentials from the arguments. -/
def expoOf (X : FVec Ideal S100000x128 .f32) (ids : IVec S100000 32) (W1 : FVec Ideal S128x64 .f32) (b1 : FVec Ideal S64 .f32)
    (W2 : FVec Ideal S64x1 .f32) (b2 : FVec Ideal S1 .f32) : FVec Ideal S100000 .f32 :=
  expo ids (score X W1 b1 W2 b2) (tame (top ids (score X W1 b1 W2 b2)))

/-- The reference's result is the pooled features of its arguments. -/
theorem result_eq (m : (ℓ : Loc nD τ sig) → Buf (Elt Ideal) ℓ) (c : Dev nD) :
    res_main_v48 m c
      = pooled (m ((c.tc : Thread nD τ).loc main_arg0)) (m ((c.tc : Thread nD τ).loc main_arg1))
          (expoOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))) := by
  unfold res_main_v48 pooled shared total expoOf expo pick tame wrap top score scoreCol idCol
  rfl

end Cert.PoolRef

end
-- ==== Proof.Segment.lean ====
/-
  A sum by segment: an accumulating scatter whose start index is row `i`'s segment number, into a vector and into a
  matrix whose columns go along. At an index the result is what was there plus the sum of the rows whose number,
  read signed, is that index; a row with a number outside the segments adds nothing.
-/
module

public import Idealize.ShloMosaic.PureOps.Ideal
public import Idealize.ShloMosaic.Lib.Pointwise

@[expose] public section

noncomputable section

namespace Cert.Pool

open Idealize.ShloMosaic

/-- The dimension numbers of the sum of `N` numbers into `G` segments. -/
abbrev vecDims (N G : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ := ⟨[], [0], [0], 1, wf⟩

/-- The dimension numbers of the sum of `N` rows of `C` numbers into `G` segments. -/
abbrev rowDims (N G C : Nat) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ := ⟨[1], [0], [0], 1, wf⟩

section vec
variable {N G w : Nat} (wf : ScatterDims.WF ⟨1, ![G]⟩ ⟨2, ![N, 1]⟩ ⟨1, ![N]⟩ [] [0] [0] 1)

/-- Row `i`'s window starts at its segment number. -/
theorem vec_start (i : Fin N) (idx : IVec ⟨2, ![N, 1]⟩ w) :
    (vecDims N G wf).start (ix1 i) idx 0 = (idx (ix2 i 0)).toInt := by
  unfold ScatterDims.start
  rw [dif_pos (by simp : (0 : Fin 1) ∈ [(0 : Fin 1)])]
  congr 2
  funext b
  match b with
  | ⟨0, _⟩ => rfl
  | ⟨1, _⟩ => rfl

/-- Row `i` lands at segment `g` just when `g` is its number. -/
theorem vec_lands (i : Fin N) (idx : IVec ⟨2, ![N, 1]⟩ w) (g : Fin G) :
    (vecDims N G wf).resultIdx? (ix1 i) idx = some (ix1 g) ↔ (idx (ix2 i 0)).toInt = (g.val : Int) := by
  have hw : (vecDims N G wf).window (ix1 i) 0 = 0 := by
    unfold ScatterDims.window
    rw [dif_neg (by simp [ScatterDims.sKept, Shape.kept])]
  unfold ScatterDims.resultIdx?
  constructor
  · intro h
    split at h
    · rename_i hb
      have h0 := congrFun (Option.some.inj h) 0
      have h1 := congrArg Fin.val h0
      have h2 := hb 0
      simp only [vec_start, hw] at h1 h2
      have : ((ix1 g : (⟨1, ![G]⟩ : Shape).Idx) 0).val = g.val := rfl
      omega
    · cases h
  · intro h
    have hall : ∀ a, 0 ≤ (vecDims N G wf).start (ix1 i) idx a + (vecDims N G wf).window (ix1 i) a
        ∧ (vecDims N G wf).start (ix1 i) idx a + (vecDims N G wf).window (ix1 i) a < (⟨1, ![G]⟩ : Shape).size a := by
      intro a
      match a with
      | ⟨0, _⟩ =>
        show 0 ≤ (vecDims N G wf).start (ix1 i) idx 0 + (vecDims N G wf).window (ix1 i) 0
          ∧ (vecDims N G wf).start (ix1 i) idx 0 + (vecDims N G wf).window (ix1 i) 0 < (G : Int)
        rw [vec_start, hw, h]
        have := g.isLt
        omega
    rw [dif_pos hall]
    congr 1
    funext a
    match a with
    | ⟨0, _⟩ =>
      apply Fin.ext
      show ((vecDims N G wf).start (ix1 i) idx 0 + (vecDims N G wf).window (ix1 i) 0).toNat = g.val
      rw [vec_start, hw, h]
      omega

/-- The sum of numbers by segment. -/
theorem vec_sum (x : (⟨1, ![G]⟩ : Shape).Idx → EReal) (idx : IVec ⟨2, ![N, 1]⟩ w) (u : (⟨1, ![N]⟩ : Shape).Idx → EReal)
    (g : Fin G) :
    Ideal.hostScatterAdd (vecDims N G wf) x idx u (ix1 g)
      = x (ix1 g) + ∑ i : Fin N, if (idx (ix2 i 0)).toInt = (g.val : Int) then u (ix1 i) else 0 := by
  show x (ix1 g) + _ = _
  congr 1
  rw [Finset.sum_filter]
  refine (Fintype.sum_equiv ⟨fun i : Fin N => (ix1 i : (⟨1, ![N]⟩ : Shape).Idx), fun j => j 0, fun _ => rfl, fun j => (eq_ix1 j).symm⟩ _ _ fun i => ?_).symm
  exact if_congr (vec_lands wf i idx g).symm rfl rfl

end vec

section row
variable {N G C w : Nat} (wf : ScatterDims.WF ⟨2, ![G, C]⟩ ⟨2, ![N, 1]⟩ ⟨2, ![N, C]⟩ [1] [0] [0] 1)

/-- Row `i`'s window starts, on the segments' axis, at its segment number. -/
theorem row_start0 (i : Fin N) (k : Fin C) (idx : IVec ⟨2, ![N, 1]⟩ w) :
    (rowDims N G C wf).start (ix2 i k) idx 0 = (idx (ix2 i 0)).toInt := by
  unfold ScatterDims.start
  rw [dif_pos (by simp : (0 : Fin 2) ∈ [(0 : Fin 2)])]
  congr 2
  funext b
  match b with
  | ⟨0, _⟩ => rfl
  | ⟨1, _⟩ => rfl

/-- … and, on the columns' axis, at zero. -/
theorem row_start1 (i : Fin N) (k : Fin C) (idx : IVec ⟨2, ![N, 1]⟩ w) :
    (rowDims N G C wf).start (ix2 i k) idx 1 = 0 := by
  unfold ScatterDims.start
  rw [dif_neg (by simp : ¬ (1 : Fin 2) ∈ [(0 : Fin 2)])]

/-- The window is one segment wide. -/
theorem row_window0 (i : Fin N) (k : Fin C) : (rowDims N G C wf).window (ix2 i k) 0 = 0 := by
  unfold ScatterDims.window
  rw [dif_neg (by simp [ScatterDims.sKept, Shape.kept])]

/-- The window's place along the columns is the row's own column. -/
theorem row_window1 (i : Fin N) (k : Fin C) : (rowDims N G C wf).window (ix2 i k) 1 = k.val := by
  unfold ScatterDims.window
  rw [dif_pos (by simp [ScatterDims.sKept, Shape.kept])]
  rfl

/-- Column `k` of row `i` lands at column `l` of segment `g` just when `g` is the row's number and the columns are one. -/
theorem row_lands (i : Fin N) (k : Fin C) (idx : IVec ⟨2, ![N, 1]⟩ w) (g : Fin G) (l : Fin C) :
    (rowDims N G C wf).resultIdx? (ix2 i k) idx = some (ix2 g l) ↔ (idx (ix2 i 0)).toInt = (g.val : Int) ∧ k = l := by
  unfold ScatterDims.resultIdx?
  constructor
  · intro h
    split at h
    · rename_i hb
      have e0 := congrArg Fin.val (congrFun (Option.some.inj h) 0)
      have e1 := congrArg Fin.val (congrFun (Option.some.inj h) 1)
      have b0 := hb 0
      simp only [row_start0, row_window0, row_start1, row_window1] at e0 e1 b0
      have h0 : ((ix2 g l : (⟨2, ![G, C]⟩ : Shape).Idx) 0).val = g.val := rfl
      have h1 : ((ix2 g l : (⟨2, ![G, C]⟩ : Shape).Idx) 1).val = l.val := rfl
      refine ⟨by omega, Fin.ext (by omega)⟩
    · cases h
  · rintro ⟨h, rfl⟩
    have hall : ∀ a, 0 ≤ (rowDims N G C wf).start (ix2 i k) idx a + (rowDims N G C wf).window (ix2 i k) a
        ∧ (rowDims N G C wf).start (ix2 i k) idx a + (rowDims N G C wf).window (ix2 i k) a < (⟨2, ![G, C]⟩ : Shape).size a := by
      intro a
      match a with
      | ⟨0, _⟩ =>
        show 0 ≤ (rowDims N G C wf).start (ix2 i k) idx 0 + (rowDims N G C wf).window (ix2 i k) 0
          ∧ (rowDims N G C wf).start (ix2 i k) idx 0 + (rowDims N G C wf).window (ix2 i k) 0 < (G : Int)
        rw [row_start0, row_window0, h]
        have := g.isLt
        omega
      | ⟨1, _⟩ =>
        show 0 ≤ (rowDims N G C wf).start (ix2 i k) idx 1 + (rowDims N G C wf).window (ix2 i k) 1
          ∧ (rowDims N G C wf).start (ix2 i k) idx 1 + (rowDims N G C wf).window (ix2 i k) 1 < (C : Int)
        rw [row_start1, row_window1]
        have := k.isLt
        omega
    rw [dif_pos hall]
    congr 1
    funext a
    match a with
    | ⟨0, _⟩ =>
      apply Fin.ext
      show ((rowDims N G C wf).start (ix2 i k) idx 0 + (rowDims N G C wf).window (ix2 i k) 0).toNat = g.val
      rw [row_start0, row_window0, h]
      omega
    | ⟨1, _⟩ =>
      apply Fin.ext
      show ((rowDims N G C wf).start (ix2 i k) idx 1 + (rowDims N G C wf).window (ix2 i k) 1).toNat = k.val
      rw [row_start1, row_window1]
      omega

/-- The sum of rows by segment. -/
theorem row_sum (x : (⟨2, ![G, C]⟩ : Shape).Idx → EReal) (idx : IVec ⟨2, ![N, 1]⟩ w) (u : (⟨2, ![N, C]⟩ : Shape).Idx → EReal)
    (g : Fin G) (l : Fin C) :
    Ideal.hostScatterAdd (rowDims N G C wf) x idx u (ix2 g l)
      = x (ix2 g l) + ∑ i : Fin N, if (idx (ix2 i 0)).toInt = (g.val : Int) then u (ix2 i l) else 0 := by
  show x (ix2 g l) + _ = _
  congr 1
  rw [Finset.sum_filter, sum_idx2]
  refine Finset.sum_congr rfl fun i _ => ?_
  rw [Finset.sum_eq_single l]
  · exact if_congr ((row_lands wf i l idx g l).trans (and_iff_left rfl)) rfl rfl
  · intro k _ hk
    exact if_neg fun h => hk ((row_lands wf i k idx g l).1 h).2
  · exact fun h => absurd (Finset.mem_univ _) h

end row

end Cert.Pool

end
-- ==== Proof.RefValue.lean ====
/-
  The reference's steps read at an index.
-/
module

public import proofs.«01_k».proof.Proof.RefTerm
public import proofs.«01_k».proof.Proof.Segment
public import proofs.«01_k».proof.Proof.Finite
public import Idealize.ShloMosaic.Lib.StableHlo.Predicate

@[expose] public section

set_option maxRecDepth 16384

noncomputable section

namespace Cert.PoolRef

open Cert.ReferenceIdeal Cert.ReferenceIdeal.Gen Idealize.ShloMosaic Cert.Pool

/-- A node's score: the linear part plus the second layer's offset. -/
theorem score_apply (X : FVec Ideal S100000x128 .f32) (W1 : FVec Ideal S128x64 .f32) (b1 : FVec Ideal S64 .f32)
    (W2 : FVec Ideal S64x1 .f32) (b2 : FVec Ideal S1 .f32) (i : Fin 100000) :
    (score X W1 b1 W2 b2 (ix1 i) : EReal)
      = (∑ k : Fin 64, Ideal.tanh ((∑ l : Fin 128, X (ix2 i l) * W1 (ix2 l k)) + b1 (ix1 k)) * W2 (ix2 k 0)) + b2 (ix1 0) := by
  unfold score scoreCol
  pointwise

/-- The column of graph numbers holds each node's number. -/
theorem idCol_apply (ids : IVec S100000 32) (i : Fin 100000) : idCol ids (ix2 i 0) = ids (ix1 i) := by
  unfold idCol
  pointwise

/-- An entry of a tamed vector is real. -/
theorem tame_real (v : FVec Ideal S128 .f32) (g : Fin 128) : ∃ r : ℝ, (tame v (ix1 g) : EReal) = r := by
  unfold tame
  simp only [pointwise, ofBits_infinity]
  split
  · next h => exact real_of_abs_lt _ h
  · refine ⟨0, ?_⟩
    show Ideal.ofBits .f32 0x00000000#32 = _
    rw [Ideal.ofBits_zero_f32, EReal.coe_zero]

/-- A number of a graph is not wrapped. -/
theorem wrap_apply (ids : IVec S100000 32) (g : Fin 128) (i : Fin 100000) (h : (ids (ix1 i)).toInt = (g.val : Int)) :
    wrap ids (ix1 i) = ids (ix1 i) := by
  unfold wrap
  simp only [pointwise]
  have e : IntOp.cmpi .slt (ids (ix1 i)) 0#32 = 0#1 := by
    show BitVec.ofBool (BitVec.slt (ids (ix1 i)) 0#32) = 0#1
    rw [BitVec.slt_eq_decide, decide_eq_false (by rw [h]; simp)]
    rfl
  rw [e]
  rfl

/-- A node of graph `g` picks the entry of `g`. -/
theorem pick_apply (ids : IVec S100000 32) (v : FVec Ideal S128 .f32) (g : Fin 128) (i : Fin 100000)
    (h : (ids (ix1 i)).toInt = (g.val : Int)) : pick ids v (ix1 i) = v (ix1 g) := by
  unfold pick
  have hi : (Shape.Idx.ofFin i : S100000.Idx) = ix1 i := by
    funext a
    match a with
    | ⟨0, _⟩ => rfl
  have hp : (StableHlo.Predicate.ixP i : S100000x1.Idx) = ix2 i 0 := by
    funext a
    match a with
    | ⟨0, _⟩ => rfl
    | ⟨1, _⟩ => rfl
  have ht := StableHlo.Predicate.gather_take gather_S128_S100000x1_S100000_n_0_n_n_0_1_1 rfl rfl rfl rfl v
    (idCol (wrap ids)) i (by omega)
  rw [hi] at ht
  refine ht.trans (congrArg v (funext fun a => Fin.ext ?_))
  match a with
  | ⟨0, _⟩ =>
    show min (idCol (wrap ids) (StableHlo.Predicate.ixP i)).toInt.toNat (128 - 1) = g.val
    rw [hp, idCol_apply, wrap_apply ids g i h, h]
    have := g.isLt
    omega

/-- The sum by graph at graph `g`: the entries of the nodes of `g`. -/
theorem total_apply (ids : IVec S100000 32) (e : FVec Ideal S100000 .f32) (g : Fin 128) :
    (total ids e (ix1 g) : EReal) = ∑ i : Fin 100000, if (ids (ix1 i)).toInt = (g.val : Int) then (e (ix1 i) : EReal) else 0 := by
  unfold total
  have h := vec_sum scatter_S128_S100000x1_S100000_n_0_0_1_wf
    (broadcastInDim S128 ![] bcast_S_S128 (constant (F := Ideal) S_ .f32 0x00000000#32)) (idCol ids) e g
  refine h.trans ?_
  simp only [idCol_apply]
  have z : (broadcastInDim S128 ![] bcast_S_S128 (constant (F := Ideal) S_ .f32 0x00000000#32) (ix1 g) : EReal) = 0 := by
    simp only [pointwise]
  rw [z, zero_add]

/-- A node's features times its share, at an index. -/
theorem shared_apply (X : FVec Ideal S100000x128 .f32) (ids : IVec S100000 32) (e : FVec Ideal S100000 .f32)
    (i : Fin 100000) (l : Fin 128) :
    (shared X ids e (ix2 i l) : EReal) = X (ix2 i l) * Ideal.div (e (ix1 i)) (pick ids (total ids e) (ix1 i)) := by
  unfold shared
  pointwise

/-- A pooled feature of graph `g`: the nodes of `g`, each feature times the node's share of the graph's sum. -/
theorem pooled_apply (X : FVec Ideal S100000x128 .f32) (ids : IVec S100000 32) (e : FVec Ideal S100000 .f32) (g l : Fin 128) :
    (pooled X ids e (ix2 g l) : EReal)
      = ∑ i : Fin 100000, if (ids (ix1 i)).toInt = (g.val : Int)
          then (X (ix2 i l) : EReal) * Ideal.div (e (ix1 i))
            (∑ k : Fin 100000, if (ids (ix1 k)).toInt = (g.val : Int) then (e (ix1 k) : EReal) else 0)
          else 0 := by
  unfold pooled
  have h := row_sum scatter_S128x128_S100000x1_S100000x128_1_0_0_1_wf
    (broadcastInDim S128x128 ![] bcast_S_S128x128 (constant (F := Ideal) S_ .f32 0x00000000#32)) (idCol ids) (shared X ids e) g l
  refine h.trans ?_
  have z : (broadcastInDim S128x128 ![] bcast_S_S128x128 (constant (F := Ideal) S_ .f32 0x00000000#32) (ix2 g l) : EReal) = 0 := by
    simp only [pointwise]
  rw [z, zero_add]
  refine Finset.sum_congr rfl fun i _ => ?_
  rw [idCol_apply]
  split
  · next hi => rw [shared_apply, pick_apply ids _ g i hi, total_apply]
  · rfl

/-- The exponential of a node of graph `g`: of its score less the entry of `g`. -/
theorem expo_apply (ids : IVec S100000 32) (s : FVec Ideal S100000 .f32) (v : FVec Ideal S128 .f32) (g : Fin 128)
    (i : Fin 100000) (h : (ids (ix1 i)).toInt = (g.val : Int)) :
    (expo ids s v (ix1 i) : EReal) = Ideal.exp ((s (ix1 i) : EReal) - v (ix1 g)) := by
  rw [← pick_apply ids v g i h]
  rfl

end Cert.PoolRef

end
-- ==== Proof.Tie.lean ====
/-
  The kernel's result and the reference's are the same: the two weigh each graph's nodes by numbers that differ by a
  factor, the same for every node of the graph, and a weighted mean does not see such a factor. Where the second layer's
  offset is `⊤` both results are zero.
-/
module

public import proofs.«01_k».proof.Proof.Fold
public import proofs.«01_k».proof.Proof.Pool
public import proofs.«01_k».proof.Proof.RefValue

@[expose] public section

set_option maxRecDepth 16384

noncomputable section

namespace Cert.Pool

open Idealize.ShloMosaic Cert.KernelIdeal

/-- The hyperbolic tangent is real everywhere, at the infinities too. -/
theorem tanh_real (x : EReal) : ∃ r : ℝ, Ideal.tanh x = r := by
  induction x with
  | bot => exact ⟨-1, show (-1 : EReal) = ((-1 : ℝ) : EReal) by simp⟩
  | top => exact ⟨1, show (1 : EReal) = ((1 : ℝ) : EReal) by simp⟩
  | coe r => exact ⟨Real.tanh r, rfl⟩

/-- The linear part of every score is real where the second layer's column is. -/
theorem lin_real (X : S100000x128.Idx → EReal) (W1 : S128x64.Idx → EReal) (b1 : S64.Idx → EReal) (W2 : S64x1.Idx → EReal)
    (hW : ∀ k : Fin 64, ∃ r : ℝ, W2 (ix2 k 0) = r) (i : Fin 100000) : ∃ r : ℝ, linOf X W1 b1 W2 i = r := by
  choose w hw using hW
  choose t ht using tanh_real
  refine ⟨∑ k : Fin 64, t ((∑ l : Fin 128, X (ix2 i l) * W1 (ix2 l k)) + b1 (ix1 k)) * w k, ?_⟩
  unfold linOf
  rw [coe_sum]
  refine Finset.sum_congr rfl fun k _ => ?_
  rw [ht, hw, EReal.coe_mul]

/-- The greater of a real number and its negation is real. -/
theorem abs_real (r : ℝ) : max (r : EReal) (-(r : EReal)) = ((max r (-r) : ℝ) : EReal) := by
  rw [← EReal.coe_neg, EReal.coe_strictMono.monotone.map_max]

/-- The number the kernel adds to the linear part is real where the second layer's column and offset are. -/
theorem shift_real (W2 : S64x1.Idx → EReal) (b2 : S1.Idx → EReal)
    (hW : ∀ k : Fin 64, ∃ r : ℝ, W2 (ix2 k 0) = r) (hb : ∃ r : ℝ, b2 (ix1 0) = r) : ∃ r : ℝ, shiftOf W2 b2 = r := by
  choose w hw using hW
  obtain ⟨b, hb⟩ := hb
  refine ⟨b - ((∑ k : Fin 64, max (w k) (-(w k))) + max b (-b)), ?_⟩
  unfold shiftOf
  simp only [hw, hb, abs_real]
  rw [EReal.coe_sub, EReal.coe_add, coe_sum]

/-- The weighted means agree. The kernel's weights are the exponentials of the linear part plus one number; the
    reference's, on the nodes of graph `g`, those of the linear part plus the offset less the graph's number. -/
theorem means_eq (X : S100000x128.Idx → EReal) (ids : S100000.Idx → BitVec 32) (g l : Fin 128) (w e : Fin 100000 → EReal)
    (L : Fin 100000 → ℝ) (u b M : ℝ) (hw : ∀ i, w i = Ideal.exp ((L i : EReal) + (u : EReal)))
    (he : ∀ i, inGraph ids g i → e i = Ideal.exp (((L i : EReal) + (b : EReal)) - (M : EReal))) :
    (if (∑ i, if inGraph ids g i then w i else 0) = 0 then (0 : EReal)
      else Ideal.div (∑ i, if inGraph ids g i then X (ix2 i l) * w i else 0) (∑ i, if inGraph ids g i then w i else 0))
      = ∑ i, if inGraph ids g i then X (ix2 i l) * Ideal.div (e i) (∑ k, if inGraph ids g k then e k else 0) else 0 := by
  have hw' : ∀ i, w i = ((Real.exp (L i + u) : ℝ) : EReal) := fun i => by
    rw [hw, ← EReal.coe_add]
    rfl
  have he' : ∀ i, inGraph ids g i → e i = ((Real.exp (b - M - u) * Real.exp (L i + u) : ℝ) : EReal) := fun i hi => by
    rw [he i hi, ← EReal.coe_add, ← EReal.coe_sub, ← Real.exp_add]
    show ((Real.exp (L i + b - M) : ℝ) : EReal) = _
    congr 2
    ring
  have hd : (∑ k, if inGraph ids g k then e k else 0)
      = ∑ k, if inGraph ids g k then ((Real.exp (b - M - u) * Real.exp (L k + u) : ℝ) : EReal) else 0 :=
    Finset.sum_congr rfl fun k _ => by
      split
      · next hk => exact he' k hk
      · rfl
  have hn : (∑ i, if inGraph ids g i then X (ix2 i l) * Ideal.div (e i) (∑ k, if inGraph ids g k then e k else 0) else 0)
      = ∑ i, if inGraph ids g i then X (ix2 i l) * Ideal.div ((Real.exp (b - M - u) * Real.exp (L i + u) : ℝ) : EReal)
          (∑ k, if inGraph ids g k then ((Real.exp (b - M - u) * Real.exp (L k + u) : ℝ) : EReal) else 0) else 0 := by
    rw [hd]
    refine Finset.sum_congr rfl fun i _ => ?_
    split
    · next hi => rw [he' i hi]
    · rfl
  rw [hn]
  simp only [hw']
  exact pool_eq (fun i => inGraph ids g i) (fun i => X (ix2 i l)) (fun i => Real.exp (L i + u)) (Real.exp (b - M - u))
    (fun i => Real.exp_pos _) (Real.exp_pos _)

/-- Where the second layer's column and offset are real, the kernel's result is the reference's pooled features. -/
theorem tie_real (m : (ℓ : Loc nD τ sig) → Buf (Elt Ideal) ℓ) (c : Dev nD)
    (hW : ∀ k : Fin 64, ∃ r : ℝ, (argW2 m c (ix2 k 0) : EReal) = r) (b : ℝ) (hb : (argB2 m c (ix1 0) : EReal) = b) (g l : Fin 128) :
    (Value.G6 m c (ix2 g l) : EReal)
      = PoolRef.pooled (argX m c) (argIds m c)
          (PoolRef.expoOf (argX m c) (argIds m c) (argW1 m c) (argB1 m c) (argW2 m c) (argB2 m c)) (ix2 g l) := by
  choose L hL using lin_real (argX m c) (argW1 m c) (argB1 m c) (argW2 m c) hW
  obtain ⟨u, hu⟩ := shift_real (argW2 m c) (argB2 m c) hW ⟨b, hb⟩
  obtain ⟨M, hM⟩ := PoolRef.tame_real
    (PoolRef.top (argIds m c) (PoolRef.score (argX m c) (argW1 m c) (argB1 m c) (argW2 m c) (argB2 m c))) g
  rw [result_apply, PoolRef.pooled_apply]
  refine means_eq (argX m c) (argIds m c) g l (weightOf m c) _ L u b M (fun i => ?_) (fun i hi => ?_)
  · unfold weightOf
    rw [hL, hu]
  · unfold PoolRef.expoOf
    rw [PoolRef.expo_apply _ _ _ g i hi, PoolRef.score_apply, hM, hb, ← hL]
    rfl

/-- An offset `⊤` is less a bound that is `⊤` too, so the number the kernel adds is `⊥`. -/
theorem shift_top (W2 : S64x1.Idx → EReal) (b2 : S1.Idx → EReal)
    (hW : ∀ k : Fin 64, ∃ r : ℝ, W2 (ix2 k 0) = r) (hb : b2 (ix1 0) = ⊤) : shiftOf W2 b2 = ⊥ := by
  choose w hw using hW
  unfold shiftOf
  simp only [hw, hb, abs_real]
  rw [← coe_sum, max_eq_left le_top, EReal.coe_add_top]
  rfl

/-- Where every exponential of graph `g` is `⊤`, every share of it is zero, and so is the pooled feature. -/
theorem shares_zero (X : S100000x128.Idx → EReal) (ids : S100000.Idx → BitVec 32) (g l : Fin 128) (e : Fin 100000 → EReal)
    (he : ∀ i, inGraph ids g i → e i = ⊤) :
    (∑ i, if inGraph ids g i then X (ix2 i l) * Ideal.div (e i) (∑ k, if inGraph ids g k then e k else 0) else 0) = 0 := by
  refine Finset.sum_eq_zero fun i _ => ?_
  split
  · next hi =>
    have hn : ∀ k ∈ (Finset.univ : Finset (Fin 100000)), (0 : EReal) ≤ if inGraph ids g k then e k else 0 := fun k _ => by
      split
      · next hk => rw [he k hk]; exact le_top
      · exact le_rfl
    have hs : (∑ k, if inGraph ids g k then e k else 0) = ⊤ := by
      have h1 := Finset.single_le_sum hn (Finset.mem_univ i)
      rw [if_pos hi, he i hi] at h1
      exact top_le_iff.1 h1
    have hd : Ideal.div ⊤ ⊤ = 0 := by
      unfold Ideal.div
      rw [if_neg EReal.top_ne_zero, EReal.inv_top, mul_zero]
    rw [hs, he i hi, hd, mul_zero]
  · rfl

/-- Where the second layer's column is real and its offset is `⊤`, both results are zero. -/
theorem tie_top (m : (ℓ : Loc nD τ sig) → Buf (Elt Ideal) ℓ) (c : Dev nD)
    (hW : ∀ k : Fin 64, ∃ r : ℝ, (argW2 m c (ix2 k 0) : EReal) = r) (hb : (argB2 m c (ix1 0) : EReal) = ⊤) (g l : Fin 128) :
    (Value.G6 m c (ix2 g l) : EReal)
      = PoolRef.pooled (argX m c) (argIds m c)
          (PoolRef.expoOf (argX m c) (argIds m c) (argW1 m c) (argB1 m c) (argW2 m c) (argB2 m c)) (ix2 g l) := by
  choose L hL using lin_real (argX m c) (argW1 m c) (argB1 m c) (argW2 m c) hW
  obtain ⟨M, hM⟩ := PoolRef.tame_real
    (PoolRef.top (argIds m c) (PoolRef.score (argX m c) (argW1 m c) (argB1 m c) (argW2 m c) (argB2 m c))) g
  rw [result_apply, PoolRef.pooled_apply, if_pos (Finset.sum_eq_zero fun i _ => ?_)]
  · refine (shares_zero (argX m c) (argIds m c) g l _ fun i hi => ?_).symm
    unfold PoolRef.expoOf
    rw [PoolRef.expo_apply _ _ _ g i hi, PoolRef.score_apply, hM, hb]
    show Ideal.exp ((linOf (argX m c) (argW1 m c) (argB1 m c) (argW2 m c) i + ⊤) - (M : EReal)) = ⊤
    rw [hL, EReal.coe_add_top, EReal.top_sub_coe]
    rfl
  · have h0 : weightOf m c i = 0 := by
      unfold weightOf
      rw [shift_top _ _ hW hb, EReal.add_bot]
      rfl
    rw [h0, ite_self]

/-- Where the second layer's column is real and its offset is not `⊥`, the kernel's result is the reference's. -/
theorem tie (m : (ℓ : Loc nD τ sig) → Buf (Elt Ideal) ℓ) (c : Dev nD)
    (hW : ∀ k : Fin 64, ∃ r : ℝ, (argW2 m c (ix2 k 0) : EReal) = r) (hb : (⊥ : EReal) < argB2 m c (ix1 0)) (g l : Fin 128) :
    (Value.G6 m c (ix2 g l) : EReal)
      = PoolRef.pooled (argX m c) (argIds m c)
          (PoolRef.expoOf (argX m c) (argIds m c) (argW1 m c) (argB1 m c) (argW2 m c) (argB2 m c)) (ix2 g l) := by
  rcases eq_or_ne (argB2 m c (ix1 0) : EReal) ⊤ with ht | ht
  · exact tie_top m c hW ht g l
  · exact tie_real m c hW _ (EReal.coe_toReal ht hb.ne').symm g l

end Cert.Pool

end
-- ==== Proof.lean ====
/-
  The claim. The kernel's frame and value and the reference's run come from their generated modules; the equation of the
  two results is `Cert.Pool.tie` (Proof/Tie.lean), which the precondition (Proof/Finite.lean) lets us use.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Finite
public import proofs.«01_k».proof.Proof.Tie
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

attribute [local instance] Cert.Pool.headFacts

/-- The reference terminates with its arguments unchanged and its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments that satisfy the precondition the kernel and the reference give the same result. -/
theorem algebraic_KernelIdeal_ReferenceIdeal_pre_bounded_head : algebraic_KernelIdeal_ReferenceIdeal_pre_bounded_head := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5⟩ := hagree c
  have hr := Cert.Pool.head_of_pre _ _ _ _ _ _ (hpre c)
  refine (h c).1.trans ((Cert.PoolRef.result_eq m' c).trans ?_)
  rw [h0, h1, h2, h3, h4, h5]
  funext i
  rw [← ix2_eta i]
  exact (Cert.Pool.tie m c hr.1 hr.2 (i 0) (i 1)).symm

/-- All the claims of the certificate. -/
theorem claim : Cert.Claim := ⟨Cert.Kernel.Gen.facts, Cert.KernelIdeal.Gen.facts, Cert.ReferenceIdeal.Gen.facts, Cert.Pool.headFacts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  algebraic_KernelIdeal_ReferenceIdeal_pre_bounded_head⟩

end Cert.Proof

end
